-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nested [hPre_nested : Cert.Pre_nested.Facts] (m : (ℓ : Loc Cert.KernelIdeal.nD Cert.KernelIdeal.τ Cert.KernelIdeal.sig) → Buf (Elt Ideal) ℓ) : Prop :=
  ∀ c : Dev Cert.KernelIdeal.nD,
    (Cert.Pre_nested.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nested [hPre_nested : Cert.Pre_nested.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nested.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nested [hKernelIdeal : Cert.KernelIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nested m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nested [hReferenceIdeal : Cert.ReferenceIdeal.Facts] [hPre_nested : Cert.Pre_nested.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nested m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nested [hKernelIdeal : Cert.KernelIdeal.Facts] [hReferenceIdeal : Cert.ReferenceIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nested m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nested : Cert.Pre_nested.Facts),
    quiescent_Kernel (hKernel := hKernel)
    ∧ quiescent_KernelIdeal (hKernelIdeal := hKernelIdeal)
    ∧ quiescent_KernelIdeal_pre_nested (hKernelIdeal := hKernelIdeal) (hPre_nested := hPre_nested)
    ∧ quiescent_ReferenceIdeal (hReferenceIdeal := hReferenceIdeal)
    ∧ quiescent_ReferenceIdeal_pre_nested (hReferenceIdeal := hReferenceIdeal) (hPre_nested := hPre_nested)
    ∧ preserves_Kernel_KernelIdeal
    ∧ algebraic_KernelIdeal_ReferenceIdeal_pre_nested (hKernelIdeal := hKernelIdeal) (hReferenceIdeal := hReferenceIdeal) (hPre_nested := hPre_nested)
-- ==== Pre_nested.lean ====
abbrev S8x49152x128 : Shape := ⟨3, ![8, 49152, 128]⟩
abbrev S12288x4 : Shape := ⟨2, ![12288, 4]⟩
abbrev S49152 : Shape := ⟨1, ![49152]⟩
abbrev S_ : Shape := ⟨0, ![]⟩

class Facts : Prop where
  shapeCasts_S49152_S12288x4 : S49152.ShapeCasts S12288x4
  reducesTo_S12288x4_S_d0_1 : S12288x4.ReducesTo [0, 1] S_
  h_S_ : 0 < S_.numel

variable [Facts]

def fn {F : FTy → Type} [FloatOps F] (main_arg0 : FVec F S8x49152x128 .f32) (main_arg1 : IVec S12288x4 32) : IVec S_ 1 :=
  let main_v0 : IVec S49152 32 := iotaInDim S49152 32 0
  let main_v1 : IVec S12288x4 32 := shapeCast S12288x4 main_v0 shapeCasts_S49152_S12288x4
  let main_v2 : IVec S12288x4 1 := cmpi .eq main_arg1 main_v1
  let main_c : IVec S_ 1 := constantI S_ 1 1#1
  let main_v3 : IVec S_ 1 := (fun x v => Host.reduce IntOp.andi x v reducesTo_S12288x4_S_d0_1 h_S_) main_v2 main_c
  main_v3
-- ==== Kernel.lean ====
abbrev S8x49152x128 : Shape := ⟨3, ![8, 49152, 128]⟩
abbrev S12288x4 : Shape := ⟨2, ![12288, 4]⟩
abbrev S50331648 : Shape := ⟨1, ![50331648]⟩
abbrev S12582912 : Shape := ⟨1, ![12582912]⟩
abbrev S32768 : Shape := ⟨1, ![32768]⟩
abbrev S8192 : Shape := ⟨1, ![8192]⟩
abbrev S_ : Shape := ⟨0, ![]⟩
abbrev S16 : Shape := ⟨1, ![16]⟩
abbrev S8x12288x128 : Shape := ⟨3, ![8, 12288, 128]⟩

abbrev nBuf : Table → Nat
  | .hbm => 5
  | .local .scVector .vmem => 2
  | _ => 0

abbrev bufTy : (tb : Table) → Fin (nBuf tb) → BufTy
  | .hbm, ⟨0, _⟩ => ⟨S8x49152x128, .f32⟩
  | .hbm, ⟨1, _⟩ => ⟨S12288x4, .i32⟩
  | .hbm, ⟨2, _⟩ => ⟨S50331648, .f32⟩
  | .hbm, ⟨3, _⟩ => ⟨S12582912, .f32⟩
  | .hbm, ⟨4, _⟩ => ⟨S8x12288x128, .f32⟩
  | .local .scVector .vmem, ⟨0, _⟩ => ⟨S32768, .f32⟩
  | .local .scVector .vmem, ⟨1, _⟩ => ⟨S8192, .f32⟩
  | _, _ => ⟨S8x49152x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c48_i32 : BitVec 32 := 48#32
  let v3 : BitVec 32 := Scalar.addi c0_i32_0 c48_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c393216_i32 : BitVec 32 := 393216#32
  let v2 : BitVec 32 := Scalar.muli v1 c393216_i32
  let c0_i32_0 : BitVec 32 := 0#32
  let c1_i32 : BitVec 32 := 1#32
  let arg6 : BitVec 32 := Scf.iv c0_i32_0 c1_i32 k0_t1
  let c8192_i32 : BitVec 32 := 8192#32
  let v4 : BitVec 32 := Scalar.muli arg6 c8192_i32
  let v5 : BitVec 32 := Scalar.addi v2 v4
  let c4_i32 : BitVec 32 := 4#32
  let v6 : BitVec 32 := Scalar.muli v5 c4_i32
  ![v6.toNat]
@[reducible] def k0_t2_loop : Scf.Loop 32 :=
  let c0_i32_3 : BitVec 32 := 0#32
  let c64_i32 : BitVec 32 := 64#32
  let v7 : BitVec 32 := Scalar.addi c0_i32_3 c64_i32
  let c1_i32_4 : BitVec 32 := 1#32
  ⟨c0_i32_3, v7, c1_i32_4⟩
def k0_off2 (k0_t2 : Fin k0_t2_loop.trips) (c0_i32_6 : BitVec 32) : Fin 1 → Nat :=
  let c0_i32_3 : BitVec 32 := 0#32
  let c1_i32_4 : BitVec 32 := 1#32
  let arg7 : BitVec 32 := Scf.iv c0_i32_3 c1_i32_4 k0_t2
  let c512_i32 : BitVec 32 := 512#32
  let v8 : BitVec 32 := Scalar.muli arg7 c512_i32
  let v10 : BitVec 32 := Scalar.addi v8 c0_i32_6
  let v11 : Index := Scalar.indexCast v10
  ![v11.toNat]
def k0_off3 (k0_t2 : Fin k0_t2_loop.trips) (c128_i32_7 : BitVec 32) (c0_i32_8 : BitVec 32) : Fin 1 → Nat :=
  let c0_i32_3 : BitVec 32 := 0#32
  let c1_i32_4 : BitVec 32 := 1#32
  let arg7 : BitVec 32 := Scf.iv c0_i32_3 c1_i32_4 k0_t2
  let c512_i32 : BitVec 32 := 512#32
  let v8 : BitVec 32 := Scalar.muli arg7 c512_i32
  let v14 : BitVec 32 := Scalar.addi v8 c128_i32_7
  let v15 : BitVec 32 := Scalar.addi v14 c0_i32_8
  let v16 : Index := Scalar.indexCast v15
  ![v16.toNat]
def k0_off4 (k0_t2 : Fin k0_t2_loop.trips) (c0_i32_11 : BitVec 32) : Fin 1 → Nat :=
  let c0_i32_3 : BitVec 32 := 0#32
  let c1_i32_4 : BitVec 32 := 1#32
  let arg7 : BitVec 32 := Scf.iv c0_i32_3 c1_i32_4 k0_t2
  let c128_i32 : BitVec 32 := 128#32
  let v9 : BitVec 32 := Scalar.muli arg7 c128_i32
  let v34 : BitVec 32 := Scalar.addi v9 c0_i32_11
  let v35 : Index := Scalar.indexCast v34
  ![v35.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c393216_i32 : BitVec 32 := 393216#32
  let v2 : BitVec 32 := Scalar.muli v1 c393216_i32
  let c0_i32_0 : BitVec 32 := 0#32
  let c1_i32 : BitVec 32 := 1#32
  let arg6 : BitVec 32 := Scf.iv c0_i32_0 c1_i32 k0_t1
  let c8192_i32 : BitVec 32 := 8192#32
  let v4 : BitVec 32 := Scalar.muli arg6 c8192_i32
  let v5 : BitVec 32 := Scalar.addi v2 v4
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x49152x128 : Shape := ⟨3, ![8, 49152, 128]⟩
abbrev S12288x4 : Shape := ⟨2, ![12288, 4]⟩
abbrev S_ : Shape := ⟨0, ![]⟩
abbrev S12288x4x1 : Shape := ⟨3, ![12288, 4, 1]⟩
abbrev S8x12288x4x128 : Shape := ⟨4, ![8, 12288, 4, 128]⟩
abbrev S8x12288x128 : Shape := ⟨3, ![8, 12288, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x49152x128, .f32⟩
  | .hbm, ⟨1, _⟩ => ⟨S12288x4, .i32⟩
  | .hbm, ⟨2, _⟩ => ⟨S_, .i32⟩
  | .hbm, ⟨3, _⟩ => ⟨S12288x4, .i32⟩
  | .hbm, ⟨4, _⟩ => ⟨S12288x4, .i1⟩
  | .hbm, ⟨5, _⟩ => ⟨S_, .i32⟩
  | .hbm, ⟨6, _⟩ => ⟨S12288x4, .i32⟩
  | .hbm, ⟨7, _⟩ => ⟨S12288x4, .i32⟩
  | .hbm, ⟨8, _⟩ => ⟨S12288x4, .i32⟩
  | .hbm, ⟨9, _⟩ => ⟨S12288x4x1, .i32⟩
  | .hbm, ⟨10, _⟩ => ⟨S8x12288x4x128, .f32⟩
  | .hbm, ⟨11, _⟩ => ⟨S_, .f32⟩
  | .hbm, ⟨12, _⟩ => ⟨S8x12288x128, .f32⟩
  | .hbm, ⟨13, _⟩ => ⟨S_, .f32⟩
  | .hbm, ⟨14, _⟩ => ⟨S8x12288x128, .f32⟩
  | .hbm, ⟨15, _⟩ => ⟨S8x12288x128, .f32⟩
  | _, _ => ⟨S8x49152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.PoolFn.lean ====
/-
  The pooling function both halves of the certificate speak of, on a flat array: rows of 128 lanes, output row `r` the
  mean of input rows `4 r .. 4 r + 3`, lane by lane, in the kernel's own order of operations. Stated for any length, so
  that it serves a chunk in tile memory and the whole array in HBM alike, and that the pooling of a chunk is seen to be a
  chunk of the pooling.
-/
module

public import proofs.«01_k».proof.Defs
public import Idealize.ShloMosaic.Lib.Tactic

@[expose] public section

noncomputable section

namespace Cert.Proof.PoolFn

open Idealize.ShloMosaic

variable {F : FTy → Type} [FloatOps F]

/-- A flat array's shape. -/
abbrev Flat (n : ℕ) : Shape := ⟨1, ![n]⟩

/-- The four summands added from the left, times a quarter. -/
def avg (a b c d : F .f32) : F .f32 :=
  FloatOps.mulf (FloatOps.addf (FloatOps.addf (FloatOps.addf a b) c) d) (Scalar.ofBits .f32 0x3E800000#32)

/-- Where output element `p` finds the lane of its `k`-th row: row `4 (p / 128) + k`, lane `p % 128`. -/
def src {n N : ℕ} (h : N = 4 * n ∧ n % 128 = 0) (p : (Flat n).Idx) (k : Fin 4) : (Flat N).Idx
  | ⟨0, _⟩ => ⟨512 * ((p 0).val / 128) + 128 * k.val + (p 0).val % 128, by
      have hp : (p 0).val < n := (p 0).isLt
      have hk := k.isLt
      show _ < N
      omega⟩
  | ⟨_ + 1, h⟩ => absurd h (Nat.not_lt.2 (Nat.le_add_left _ _))

/-- Where member `k` of the group that place `p` pools lies. -/
theorem src_val {n N : ℕ} (h : N = 4 * n ∧ n % 128 = 0) (p : (Flat n).Idx) (k : Fin 4) :
    (src h p k 0).val = 512 * ((p 0).val / 128) + 128 * k.val + (p 0).val % 128 := rfl

/-- The pooled array: at each element the average of its four rows' lanes. -/
def pooled {n N : ℕ} (h : N = 4 * n ∧ n % 128 = 0) (x : (Flat N).Idx → F .f32) : (Flat n).Idx → F .f32 :=
  fun p => avg (x (src h p 0)) (x (src h p 1)) (x (src h p 2)) (x (src h p 3))

/-- Two places of a flat array with the same coordinate are the same. -/
theorem flat_ext {n : ℕ} {p q : (Flat n).Idx} (h : (p 0).val = (q 0).val) : p = q :=
  funext fun a => match a with
    | ⟨0, _⟩ => Fin.ext h
    | ⟨_ + 1, h⟩ => absurd h (Nat.not_lt.2 (Nat.le_add_left _ _))

/-- The pooling of a chunk is the chunk of the pooling: a chunk that starts at a whole row `o` of the output and at `4 o`
    of the input pools to what the whole array's pooling holds there. -/
theorem pooled_chunk {n N n' N' : ℕ} (h : N = 4 * n ∧ n % 128 = 0) (h' : N' = 4 * n' ∧ n' % 128 = 0)
    (x : (Flat N).Idx → F .f32) (o : ℕ) (ho : o % 128 = 0)
    (ein : (Flat N').Idx → (Flat N).Idx) (hin : ∀ y, (ein y 0).val = 4 * o + (y 0).val)
    (p : (Flat n').Idx) (q : (Flat n).Idx) (hq : (q 0).val = o + (p 0).val) :
    pooled h' (fun y => x (ein y)) p = pooled h x q := by
  have key : ∀ k, ein (src h' p k) = src h q k := fun k => flat_ext (by
    rw [hin, src_val, src_val, hq]; omega)
  simp only [pooled, key]

/-- A sixteen-lane group's average is the pooling's at those lanes: lane `z` of the group at column `c` of output row
    `r`, from the lanes at column `c` of input rows `4 r .. 4 r + 3`. -/
theorem avg_lane {n N : ℕ} (h : N = 4 * n ∧ n % 128 = 0) (x : (Flat N).Idx → F .f32) (r c z : ℕ) (hc : c + z < 128)
    (i₀ i₁ i₂ i₃ : (Flat N).Idx) (q : (Flat n).Idx)
    (h₀ : (i₀ 0).val = 512 * r + c + z) (h₁ : (i₁ 0).val = 512 * r + 128 + c + z) (h₂ : (i₂ 0).val = 512 * r + 256 + c + z)
    (h₃ : (i₃ 0).val = 512 * r + 384 + c + z) (hq : (q 0).val = 128 * r + c + z) :
    avg (x i₀) (x i₁) (x i₂) (x i₃) = pooled h x q := by
  have e₀ : i₀ = src h q 0 := flat_ext (by rw [src_val, h₀, hq]; show _ = _ + 128 * 0 + _; omega)
  have e₁ : i₁ = src h q 1 := flat_ext (by rw [src_val, h₁, hq]; show _ = _ + 128 * 1 + _; omega)
  have e₂ : i₂ = src h q 2 := flat_ext (by rw [src_val, h₂, hq]; show _ = _ + 128 * 2 + _; omega)
  have e₃ : i₃ = src h q 3 := flat_ext (by rw [src_val, h₃, hq]; show _ = _ + 128 * 3 + _; omega)
  rw [e₀, e₁, e₂, e₃]; rfl

end Cert.Proof.PoolFn

end
-- ==== Proof.PoolKernelIdealTile.lean ====
/-
One vector subcore's task. The kernel splits the input, read as one flat array, into 1536 chunks of 32768 elements and the
output into 1536 chunks of 8192; each of the 32 vector subcores does 48 consecutive chunks. For each it copies the input
chunk in, averages it in groups of four rows of 128 lanes into a staging buffer, and copies that out. `tile_body` says that
the task, given its 48 input chunks and its 48 output chunks, hands them back with the input unchanged and every output
chunk holding its part of the pooled array (`PoolFn.pooled`).
-/
module

public import proofs.«01_k».proof.Defs
public import proofs.«01_k».proof.Proof.PoolFn
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.PoolKernelIdeal

open Cert.KernelIdeal Cert.KernelIdeal.Gen
open Cert.Proof.PoolFn

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The launch's vocabulary -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S50331648 EltTy.f32)
local notation "oW" => (Memref.whole Cert.KernelIdeal.main_v1_scv : Memref Cert.KernelIdeal.sig Kind.scVector Space.hbm Cert.KernelIdeal.S12582912 EltTy.f32)
local notation "aW" => (Memref.whole Cert.KernelIdeal.cc0_scratch0 : Memref Cert.KernelIdeal.sig Kind.scVector Space.vmem Cert.KernelIdeal.S32768 EltTy.f32)
local notation "bW" => (Memref.whole Cert.KernelIdeal.cc0_scratch1 : Memref Cert.KernelIdeal.sig Kind.scVector Space.vmem Cert.KernelIdeal.S8192 EltTy.f32)

variable [FloatOps F]

/-! ## One row -/

section Row

variable (d : Dev nD) (L : grid0.Coords)

abbrev cV (L : grid0.Coords) : Fin τ.nSC := (L 0).castLE hcore0
abbrev jV (L : grid0.Coords) : Fin τ.nSub := (L 1).castLE hsub0
/-- The vector subcore that runs the task at grid coordinates `L`. -/
abbrev tile (d : Dev nD) (L : grid0.Coords) : Thread nD τ := V d (cV L) (jV L)

/-- A chunk of the input is four times a chunk of the output, which is whole rows. -/
theorem hChunk : 32768 = 4 * 8192 ∧ 8192 % 128 = 0 := by decide
/-- So are the whole arrays. -/
theorem hAll : 50331648 = 4 * 12582912 ∧ 12582912 % 128 = 0 := by decide

/-- The pooling loop's invariant after `k` rows: the input chunk as it was fetched, the output chunk pooled up to row `k`. -/
def rowInv (fa : Buf (Elt F) ((tile d L).loc cc0_scratch0)) (k : Nat) (_ : Unit) : sProp 𝕄 :=
  iprop(((aW).view.loc (tile d L) ↦{fullShare} fa)
    ∗ ∃ f : Buf (Elt F) ((tile d L).loc cc0_scratch1),
        ⌜∀ p : S8192.Idx, (p 0).val < 128 * k → f p = pooled (F := F) hChunk fa p⌝ ∗ ((bW).view.loc (tile d L) ↦{fullShare} f))

/-- The sixteen lanes of `fa` at lane group `g` of the input row that the row constant `b` names, as the loop loads them:
    the first of the four rows, and the row `1 + r` after it. -/
abbrev ld₀ (fa : Buf (Elt F) ((tile d L).loc cc0_scratch0)) (k : Fin k0_t2_loop.trips) (g : Fin 8) : S16.Idx → F .f32 :=
  View.readAt (Elt F) (aW).view (Rect.unit (s := S32768) (k0_off2 k (BitVec.ofNat 32 (16 * g.val))) S16.size (k0_off2_inb k g)).toLoadRect fa
abbrev ld (fa : Buf (Elt F) ((tile d L).loc cc0_scratch0)) (k : Fin k0_t2_loop.trips) (r : Fin 3) (g : Fin 8) : S16.Idx → F .f32 :=
  View.readAt (Elt F) (aW).view
    (Rect.unit (s := S32768) (k0_off3 k (BitVec.ofNat 32 (128 + 128 * r.val)) (BitVec.ofNat 32 (16 * g.val))) S16.size (k0_off3_inb k r g)).toLoadRect fa

/-- What the loop stores for lane group `g` of output row `k`: the four loads averaged, at the group's sixteen places. -/
abbrev piece (fa : Buf (Elt F) ((tile d L).loc cc0_scratch0)) (k : Fin k0_t2_loop.trips) (g : Fin 8) : View.Piece (Elt F) S8192 .f32 :=
  ⟨Rect.unit (s := S8192) (k0_off4 k (BitVec.ofNat 32 (16 * g.val))) S16.size (k0_off4_inb k g),
    fun z => avg (ld₀ d L fa k g z) (ld d L fa k 0 g z) (ld d L fa k 1 g z) (ld d L fa k 2 g z)⟩

/-- A lane group's store is the pooling of the chunk at the places it writes. -/
theorem piece_eq (fa : Buf (Elt F) ((tile d L).loc cc0_scratch0)) (k : Fin k0_t2_loop.trips) (g : Fin 8)
    (z : (piece d L fa k g).1.shape.Idx) : (piece d L fa k g).2 z = pooled hChunk fa ((piece d L fa k g).1.emb z) := by
  have hz : (z 0).val < 16 := (z 0).isLt
  have hg := g.isLt
  refine avg_lane hChunk fa k.val (16 * g.val) (z 0).val (by omega) _ _ _ _ _ ?_ ?_ ?_ ?_ ?_
  · show k0_off2 k _ 0 + 1 * (z 0).val = _
    rw [k0_off2_eq]; show 512 * k.val + 16 * g.val + _ = _; omega
  · show k0_off3 k (BitVec.ofNat 32 (128 + 128 * (0 : Fin 3).val)) _ 0 + 1 * (z 0).val = _
    rw [k0_off3_eq]; show 512 * k.val + 128 * 0 + 16 * g.val + 128 + _ = _; omega
  · show k0_off3 k (BitVec.ofNat 32 (128 + 128 * (1 : Fin 3).val)) _ 0 + 1 * (z 0).val = _
    rw [k0_off3_eq]; show 512 * k.val + 128 * 1 + 16 * g.val + 128 + _ = _; omega
  · show k0_off3 k (BitVec.ofNat 32 (128 + 128 * (2 : Fin 3).val)) _ 0 + 1 * (z 0).val = _
    rw [k0_off3_eq]; show 512 * k.val + 128 * 2 + 16 * g.val + 128 + _ = _; omega
  · show k0_off4 k _ 0 + 1 * (z 0).val = _
    rw [k0_off4_eq]; show 128 * k.val + 16 * g.val + _ = _; omega

/-- A place is among lane group `g`'s of output row `k` when its coordinate is. -/
theorem mem_piece (fa : Buf (Elt F) ((tile d L).loc cc0_scratch0)) (k : Fin k0_t2_loop.trips) (g : Fin 8) (p : S8192.Idx) :
    p ∈ (piece d L fa k g).1.set ↔ 128 * k.val + 16 * g.val ≤ (p 0).val ∧ (p 0).val < 128 * k.val + 16 * g.val + 16 := by
  rw [Rect.mem_set_unit, k0_off4_eq]
  exact ⟨fun h => h 0, fun h a => match a with | ⟨0, _⟩ => h | ⟨_ + 1, h⟩ => absurd h (Nat.not_lt.2 (Nat.le_add_left _ _))⟩

/-- A row's eight stores, the last first. -/
abbrev pieces (fa : Buf (Elt F) ((tile d L).loc cc0_scratch0)) (k : Fin k0_t2_loop.trips) : List (View.Piece (Elt F) S8192 .f32) :=
  ([7, 6, 5, 4, 3, 2, 1, 0] : List (Fin 8)).map (piece d L fa k)

/-- The eight stores of row `k`, over contents pooled up to row `k`, leave contents pooled up to row `k + 1`. -/
theorem pieces_pool (fa : Buf (Elt F) ((tile d L).loc cc0_scratch0)) (k : Fin k0_t2_loop.trips) (f : Buf (Elt F) ((tile d L).loc cc0_scratch1))
    (hf : ∀ p : S8192.Idx, (p 0).val < 128 * k.val → f p = pooled (F := F) hChunk fa p)
    (p : S8192.Idx) (hp : (p 0).val < 128 * (k.val + 1)) :
    (bW).view.writes (Elt F) f (pieces d L fa k) p = pooled (F := F) hChunk fa p := by
  show (bW).view.read (Elt F) ((bW).view.writes (Elt F) f (pieces d L fa k)) p = _
  by_cases h : (p 0).val < 128 * k.val
  · rw [View.read_writes_apply_of_forall_not_mem _ _ _ _ fun q hq => ?_]
    · exact hf p h
    · obtain ⟨g, -, rfl⟩ := List.mem_map.mp hq
      rw [mem_piece]; omega
  · refine View.read_writes_apply_of_pieces (Val := Elt F) (e := .f32) (bW).view f (pooled (F := F) hChunk fa) _ (fun q hq z => ?_) p ?_
    · obtain ⟨g, -, rfl⟩ := List.mem_map.mp hq
      exact piece_eq d L fa k g z
    · have hg : ((p 0).val - 128 * k.val) / 16 < 8 := by omega
      refine ⟨_, List.mem_map.mpr ⟨⟨_, hg⟩, ?_, rfl⟩, (mem_piece d L fa k _ p).mpr ?_⟩
      · exact (show ∀ g : Fin 8, g ∈ ([7, 6, 5, 4, 3, 2, 1, 0] : List (Fin 8)) by decide) _
      · show 128 * k.val + 16 * (((p 0).val - 128 * k.val) / 16) ≤ _ ∧ _ < 128 * k.val + 16 * (((p 0).val - 128 * k.val) / 16) + 16
        omega

set_option maxHeartbeats 4000000 in
/-- One trip of the pooling loop: row `k` pooled. -/
theorem row_body (fa : Buf (Elt F) ((tile d L).loc cc0_scratch0)) (k : Fin k0_t2_loop.trips) (x : Unit) :
    rowInv (F := F) d L fa k.val x
      ⊢ wp frame (wpE (defs₀ (F := F)) 𝒱₀ (tile d L) none) Set.univ
          (k0_t2_body (F := F) L xW (Memref.isWhole_whole _) oW (Memref.isWhole_whole _) aW (Memref.isWhole_whole _) bW (Memref.isWhole_whole _) cc0_scoped0 cc0_scoped1 k x)
          fun y => rowInv (F := F) d L fa (k.val + 1) y := by
  unfold k0_t2_body
  simp only [k0_part1_eq_skeleton, k0_part2_eq_skeleton, k0_part3_eq_skeleton, k0_part4_eq_skeleton, k0_part5_eq_skeleton]
  unfold rowInv
  iintro ⟨Ha, %f, %hf, Hb⟩
  sl_exec
  sl_step
  isplitl [Ha]; · iexact Ha
  iexists _
  isplitr [Hb]
  rotate_left
  · iexact Hb
  ipureintro
  intro p hp
  refine Eq.trans ?_ (pieces_pool d L fa k f hf p hp)
  sl_unfold_run_names
  simp only [k0_pay1, k0_pay2, k0_pay3, k0_pay4, k0_pay5, k0_pay6, k0_pay7, k0_pay8, k0_pay9, k0_pay10, k0_pay11, k0_pay12, shapeCast_self]
  rfl

end Row

/-! ## One chunk -/

section Tile

variable (d : Dev nD) (L : grid0.Coords)

abbrev xLoc (d : Dev nD) : Loc nD τ sig := (SparseCore.T d).loc main_v0
abbrev oLoc (d : Dev nD) : Loc nD τ sig := (SparseCore.T d).loc main_v1

/-- Chunk `t` of the flat input and of the flat output that the task at `L` works through, as the task addresses them. -/
abbrev xCh (L : grid0.Coords) (t : Fin k0_t1_loop.trips) : Memref sig .scVector .hbm S32768 .f32 :=
  (xW).slice (Rect.unit (s := S50331648) (k0_off1 L t) S32768.size (k0_off1_inb L t)) (fun _ => rfl)
abbrev oCh (L : grid0.Coords) (t : Fin k0_t1_loop.trips) : Memref sig .scVector .hbm S8192 .f32 :=
  (oW).slice (Rect.unit (s := S12582912) (k0_off5 L t) S8192.size (k0_off5_inb L t)) (fun _ => rfl)

abbrev xChPts (d : Dev nD) (L : grid0.Coords) (t : Fin k0_t1_loop.trips) (f : Buf (Elt F) (xLoc d)) : sProp 𝕄 :=
  (xCh L t).view.loc (tile d L) ↦[(xCh L t).view.set]{fullShare} f
abbrev oChPts (d : Dev nD) (L : grid0.Coords) (t : Fin k0_t1_loop.trips) (f : Buf (Elt F) (oLoc d)) : sProp 𝕄 :=
  (oCh L t).view.loc (tile d L) ↦[(oCh L t).view.set]{fullShare} f

/-- The task's chunks with the first `k` of the output pooled: the input's at `xf`, the output's at the pooling of `xf`
    below chunk `k`, at `g` from it on. -/
def chunks (d : Dev nD) (L : grid0.Coords) (xf : Buf (Elt F) (xLoc d)) (g : Buf (Elt F) (oLoc d)) (k : ℕ) : sProp 𝕄 :=
  bigSep Finset.univ fun t : Fin k0_t1_loop.trips =>
    iprop(xChPts d L t xf ∗ oChPts d L t (if t.val < k then pooled (F := F) hAll xf else g))

/-- Chunk `k` taken out of the task's, its output not yet pooled. -/
theorem chunks_take (xf : Buf (Elt F) (xLoc d)) (g : Buf (Elt F) (oLoc d)) (k : Fin k0_t1_loop.trips) :
    chunks (F := F) d L xf g k.val = iprop((xChPts d L k xf ∗ oChPts d L k g)
      ∗ bigSep (Finset.univ.erase k) fun t : Fin k0_t1_loop.trips =>
          iprop(xChPts d L t xf ∗ oChPts d L t (if t.val < k.val then pooled (F := F) hAll xf else g))) := by
  unfold chunks
  rw [SparseCore.bigSep_erase' (Finset.mem_univ k), if_neg (Nat.lt_irrefl _)]

/-- Chunk `k` put back, its output pooled. -/
theorem chunks_put (xf : Buf (Elt F) (xLoc d)) (g : Buf (Elt F) (oLoc d)) (k : Fin k0_t1_loop.trips) :
    chunks (F := F) d L xf g (k.val + 1) = iprop((xChPts d L k xf ∗ oChPts d L k (pooled (F := F) hAll xf))
      ∗ bigSep (Finset.univ.erase k) fun t : Fin k0_t1_loop.trips =>
          iprop(xChPts d L t xf ∗ oChPts d L t (if t.val < k.val then pooled (F := F) hAll xf else g))) := by
  unfold chunks
  rw [SparseCore.bigSep_erase' (Finset.mem_univ k), if_pos (Nat.lt_succ_self _)]
  refine congrArg (fun R : sProp 𝕄 => iprop((xChPts d L k xf ∗ oChPts d L k (pooled (F := F) hAll xf)) ∗ R)) (bigSep_congr fun t ht => ?_)
  have hne : t.val ≠ k.val := fun e => (Finset.mem_erase.mp ht).1 (Fin.ext e)
  have hiff : t.val < k.val + 1 ↔ t.val < k.val := by omega
  simp only [hiff]

/-- The input chunk as the task reads it, pooled, is the whole input's pooling at the output chunk's places. -/
theorem pooled_at (xf : Buf (Elt F) (xLoc d)) (t : Fin k0_t1_loop.trips) (p : S8192.Idx) :
    pooled (F := F) hChunk ((xCh L t).view.read (Elt F) xf) p = pooled (F := F) hAll xf ((oCh L t).view.emb p) := by
  refine pooled_chunk hAll hChunk xf (786432 * (L 1).val + 393216 * (L 0).val + 8192 * t.val) (by omega)
    (fun y => (xCh L t).view.emb y) (fun y => ?_) p _ ?_
  · show k0_off1 L t 0 + 1 * (y 0).val = _
    rw [k0_off1_eq]; show 3145728 * (L 1).val + 1572864 * (L 0).val + 32768 * t.val + _ = _; omega
  · show k0_off5 L t 0 + 1 * (p 0).val = _
    rw [k0_off5_eq]; show 786432 * (L 1).val + 393216 * (L 0).val + 8192 * t.val + _ = _; omega

/-- An output chunk written with the pooling of the input chunk holds the whole input's pooling. -/
theorem oCh_landed (xf : Buf (Elt F) (xLoc d)) (g : Buf (Elt F) (oLoc d)) (t : Fin k0_t1_loop.trips) (w : S8192.Idx → Elt F .f32)
    (hw : ∀ p, w p = pooled (F := F) hChunk ((xCh L t).view.read (Elt F) xf) p) :
    oChPts (F := F) d L t ((oCh L t).view.writes (Elt F) g [⟨Rect.whole S8192, w⟩]) = oChPts d L t (pooled (F := F) hAll xf) := by
  refine pointsTo_congr fun i hi => ?_
  obtain ⟨p, -, rfl⟩ := Finset.mem_map.mp hi
  refine ((View.read_apply (v := (oCh L t).view) (Val := Elt F) _ p).trans (cast_eq _ _)).symm.trans ?_
  rw [View.read_writes_cons_hit_of_coords _ _ (Rect.whole S8192) w [] p p (fun a => ?_), hw, pooled_at]
  show (p a).val = 0 + 1 * (p a).val
  omega

/-- The row loop runs 64 times, -/
theorem rows_all : Scf.trips k0_t2_loop.lb k0_t2_loop.ub k0_t2_loop.st = 64 := by decide
/-- and the chunk loop 48 times. -/
theorem chunks_all : Scf.trips k0_t1_loop.lb k0_t1_loop.ub k0_t1_loop.st = 48 := by decide

abbrev cA (d : Dev nD) (L : grid0.Coords) : GSem nD τ sig := (tile d L, .dma cc0_scoped0.sem)
abbrev cB (d : Dev nD) (L : grid0.Coords) : GSem nD τ sig := (tile d L, .dma cc0_scoped1.sem)

/-- The chunk loop's invariant after `k` chunks: the task's chunks with `k` pooled, the two scratch buffers at whatever
    they hold, both semaphores at zero, what the subcore owes unchanged. -/
def chInv (xf : Buf (Elt F) (xLoc d)) (g : Buf (Elt F) (oLoc d)) (O : CellTallies nD τ sig (HIx 1)) (W : Waits sig (HIx 1)) (k : Nat) (_ : Unit) : sProp 𝕄 :=
  iprop(Transfers.MayWaits (tile d L) (default : HIx 1) O
    ∗ chunks (F := F) d L xf g k
    ∗ (∃ fa : Buf (Elt F) ((tile d L).loc cc0_scratch0), (aW).view.loc (tile d L) ↦{fullShare} fa)
    ∗ (∃ fb : Buf (Elt F) ((tile d L).loc cc0_scratch1), (bW).view.loc (tile d L) ↦{fullShare} fb)
    ∗ semVal (cA d L) 0 ∗ semVal (cB d L) 0
    ∗ ∃ W', ⌜∀ p ∈ W', p ∈ W ∨ p.2 = none⌝ ∗ owes (tile d L) O W')

set_option maxHeartbeats 4000000 in
/-- One trip of the chunk loop: the chunk fetched, pooled row by row, written out. -/
theorem chunk_body (xf : Buf (Elt F) (xLoc d)) (g : Buf (Elt F) (oLoc d)) (O : CellTallies nD τ sig (HIx 1)) (W : Waits sig (HIx 1))
    (k : Fin k0_t1_loop.trips) (x : Unit) :
    chInv (F := F) d L xf g O W k.val x
      ⊢ wp frame (wpE (defs₀ (F := F)) 𝒱₀ (tile d L) none) Set.univ
          (k0_t1_body (F := F) L xW (Memref.isWhole_whole _) oW (Memref.isWhole_whole _) aW (Memref.isWhole_whole _) bW (Memref.isWhole_whole _) cc0_scoped0 cc0_scoped1 k x)
          fun y => chInv (F := F) d L xf g O W (k.val + 1) y := by
  unfold k0_t1_body chInv
  rw [chunks_take, chunks_put]
  iintro ⟨Hmw, ⟨⟨Hx, Ho⟩, Hrest⟩, ⟨%fa, Ha⟩, ⟨%fb, Hb⟩, HsA, HsB, %W', %hW', HO⟩
  sl_exec (disch := exact View.amount_pos _ _ (show 0 < S32768.numel by decide))
  sl_for (rowInv (F := F) d L (View.write (Elt F) (aW).view fa (chunk_body.sl.dma0 d L xf k) Finset.univ)) $$ [Ha Hb]
  case region => intro k₂ y; exact row_body d L _ k₂ y
  · unfold rowInv
    isplitl [Ha]; · iexact Ha
    iexists fb; isplitr
    · ipureintro; exact fun p hp => absurd hp (Nat.not_lt_zero _)
    · iexact Hb
  iintro %_ HI
  unfold rowInv
  icases HI with ⟨Ha, %f, %hf, Hb⟩
  sl_exec (disch := exact View.amount_pos _ _ (show 0 < S8192.numel by decide))
  sl_step
  have hw : ∀ p, chunk_body.sl.dma0_1 d L f p = pooled (F := F) hChunk ((xCh L k).view.read (Elt F) xf) p := fun p => by
    have hp : (p 0).val < 8192 := (p 0).isLt
    refine (hf p (by rw [rows_all]; exact hp)).trans ?_
    rw [View.write_whole_univ]
    rfl
  isplitl [Hmw]; · iexact Hmw
  isplitl [Hx Ho Hrest]
  · isplitl [Hx Ho]
    · isplitl [Hx]; · iexact Hx
      iapply (Entails.of_eq (oCh_landed d L xf g k (chunk_body.sl.dma0_1 d L f) hw)); iexact Ho
    · iexact Hrest
  isplitl [Ha]; · iexists _; iexact Ha
  isplitl [Hb]; · iexists _; iexact Hb
  isplitl [HsA]; · iexact HsA
  isplitl [HsB]; · iexact HsB
  iexists _; isplitr
  rotate_left
  · iexact HO
  · ipureintro; intro p hp
    rcases Finset.mem_insert.mp hp with hp | hp
    · exact .inr (hp ▸ rfl)
    · rcases Finset.mem_insert.mp hp with hp | hp
      · exact .inr (hp ▸ rfl)
      · exact hW' p hp

/-! ## The task -/

/-- The two semaphores of a subcore's that the task uses, at zero, and the rest. -/
theorem ownSems0_V :
    (ownSems0 (tile d L) : sProp 𝕄)
      = iprop(semVal (cA d L) 0 ∗ semVal (cB d L) 0
          ∗ bigSep (((ownCells (tile d L)).erase (cA d L)).erase (cB d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩)]

/-- A subcore's two scratch buffers, each at some contents, and the rest of its own. -/
theorem ownBufs_V :
    (ownBufs (tile d L) : sProp 𝕄)
      = iprop((∃ f, (tile d L).loc cc0_scratch0 ↦{fullShare} f) ∗ (∃ f, (tile d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the task takes: its chunks of the flat input at `xf` and of the flat output at `g`. -/
abbrev taskIn (d : Dev nD) (L : grid0.Coords) (xf : Buf (Elt F) (xLoc d)) (g : Buf (Elt F) (oLoc d)) : sProp 𝕄 :=
  bigSep Finset.univ fun t : Fin k0_t1_loop.trips => iprop(xChPts d L t xf ∗ oChPts d L t g)

/-- Before the first chunk nothing is pooled: that is what the task takes, -/
theorem chunks_none (xf : Buf (Elt F) (xLoc d)) (g : Buf (Elt F) (oLoc d)) : chunks (F := F) d L xf g 0 = taskIn d L xf g := by
  unfold chunks
  refine bigSep_congr fun t _ => ?_
  rw [if_neg (Nat.not_lt_zero _)]

/-- and after the last every chunk is. -/
theorem chunks_done (xf : Buf (Elt F) (xLoc d)) (g : Buf (Elt F) (oLoc d)) :
    chunks (F := F) d L xf g (Scf.trips k0_t1_loop.lb k0_t1_loop.ub k0_t1_loop.st) = taskIn d L xf (pooled (F := F) hAll xf) := by
  unfold chunks
  refine bigSep_congr fun t _ => ?_
  rw [if_pos t.isLt]

set_option maxHeartbeats 4000000 in
/-- The task on the vector subcore at `L` of device `d`: every chunk of its part of the output pooled. -/
theorem tile_body (hF : (K (F := F)).Facts) (xf : Buf (Elt F) (xLoc d)) (g : Buf (Elt F) (oLoc d))
    (O : CellTallies nD τ sig (HIx 1)) (W : Waits sig (HIx 1)) (hO : ∀ g, O g none = 0) :
    iprop(levAts (K (F := F)).L (K (F := F)).lev ∗ emp ∗ taskIn d L xf g
        ∗ scopedBufs (tile d L) ∗ scopedSems0 (tile d L) ∗ owes (tile d L) O W)
      ⊢ wp frame (wpE (defs₀ (F := F)) 𝒱₀ (tile d L) none) Set.univ
          (cc0_pool L xW (Memref.isWhole_whole _) oW (Memref.isWhole_whole _) aW (Memref.isWhole_whole _) bW (Memref.isWhole_whole _) cc0_scoped0 cc0_scoped1)
          fun _ => iprop(taskIn d L xf (pooled (F := F) hAll xf) ∗ scopedBufs (tile d L) ∗ scopedSems0 (tile d L)
            ∗ ∃ W', ⌜∀ p ∈ W', p ∈ W ∨ p.2 = none⌝ ∗ owes (tile d L) O W') := by
  simp only [cc0_pool_eq_skeleton]; unfold cc0_pool_skel
  rw [(K (F := F)).scopedBufs_V hF d (cV L) (jV L), SparseCore.Cfg.scopedSems0_V (Val := Elt F) d (cV L) (jV L), ownSems0_V, ownBufs_V]
  iintro ⟨#Hlv, -, Hch, ⟨⟨%fa, Ha⟩, ⟨%fb, Hb⟩, Hbufs⟩, ⟨HsA, HsB, Hsems⟩, HO⟩
  ihave Hmw := (show levAts (K (F := F)).L (K (F := F)).lev ⊢ Transfers.MayWaits (tile d L) (default : HIx 1) O from
    (K (F := F)).mayWaits_none (thr := tile d L) hO) $$ Hlv
  sl_exec
  sl_for (chInv (F := F) d L xf g O W) $$ [Hmw Hch Ha Hb HsA HsB HO]
  case region => intro k y; exact chunk_body d L xf g O W k y
  · unfold chInv
    rw [chunks_none]
    isplitl [Hmw]; · iexact Hmw
    isplitl [Hch]; · iexact Hch
    isplitl [Ha]; · iexists fa; iexact Ha
    isplitl [Hb]; · iexists fb; iexact Hb
    isplitl [HsA]; · iexact HsA
    isplitl [HsB]; · iexact HsB
    iexists W; isplitr
    · ipureintro; exact fun p hp => .inl hp
    · iexact HO
  iintro %_ HI
  unfold chInv
  rw [chunks_done]
  icases HI with ⟨-, Hch, ⟨%fa', Ha⟩, ⟨%fb', Hb⟩, HsA, HsB, %W', %hW', HO⟩
  sl_exec
  sl_step
  isplitl [Hch]; · iexact Hch
  isplitl [Ha Hb Hbufs]
  · isplitl [Ha]; · iexists fa'; iexact Ha
    isplitl [Hb]; · iexists fb'; iexact Hb
    iexact Hbufs
  isplitl [HsA HsB Hsems]
  · isplitl [HsA]; · iexact HsA
    isplitl [HsB]; · iexact HsB
    iexact Hsems
  iexists W'; isplitr
  · ipureintro; exact hW'
  · iexact HO

end Tile

end Cert.Proof.PoolKernelIdeal

end
-- ==== Proof.PoolKernelIdealRun.lean ====
/-
The whole program. Its TensorCore flattens the input, starts the SparseCore call that `tile_body` is about, waits for it, and
gives the flat result its shape. Here the two flat arrays are cut into the chunks the tasks work on, the call's payloads are
set, and the run is put together: `run` says that the program ends without a fault, with both arguments as they were, its
result the pooling of its first argument, and every semaphore at zero.
-/
module

public import proofs.«01_k».proof.Proof.PoolKernelIdealTile

@[expose] public section

noncomputable section

namespace Cert.Proof.PoolKernelIdeal

open Cert.KernelIdeal Cert.KernelIdeal.Gen
open Cert.Proof.PoolFn

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-- The launch semaphores are four distinct unscoped ones, and the sequencers share no buffer with the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

variable [FloatOps F]

/-! ## The chunks make up the arrays -/

/-- Grid coordinates from a SparseCore's number and a vector subcore's. -/
def coords (c : Fin (grid0.bound 0)) (i : Fin (grid0.bound 1)) : grid0.Coords :=
  fun | 0 => c | 1 => i | ⟨_ + 2, h⟩ => absurd h (Nat.not_lt.2 (Nat.le_add_left _ _))

/-- A chunk's name: the SparseCore, the vector subcore, and the number of the chunk in that one's task. -/
abbrev Chunk : Type := Fin (grid0.bound 0) × Fin (grid0.bound 1) × Fin k0_t1_loop.trips

/-- The chunk's place among all 1536. -/
def Chunk.pos (e : Chunk) : Nat := 96 * e.2.1.val + 48 * e.1.val + e.2.2.val

/-- A chunk has one of 2 cores, of 16 subcores and of 48 trips. -/
theorem Chunk.bounds (e : Chunk) : e.1.val < 2 ∧ e.2.1.val < 16 ∧ e.2.2.val < 48 :=
  ⟨e.1.isLt, e.2.1.isLt, lt_of_lt_of_eq e.2.2.isLt chunks_all⟩

/-- Chunks at the same place are the same, -/
theorem Chunk.ext_pos {e e' : Chunk} (h : e.pos = e'.pos) : e = e' := by
  have h1 := e.bounds
  have h2 := e'.bounds
  unfold Chunk.pos at h
  exact Prod.ext (Fin.ext (by omega)) (Prod.ext (Fin.ext (by omega)) (Fin.ext (by omega)))

/-- and every place below 1536 is some chunk's. -/
theorem Chunk.exists_pos {n : Nat} (h : n < 1536) : ∃ e : Chunk, e.pos = n :=
  ⟨(⟨n % 96 / 48, show _ < 2 by omega⟩, ⟨n / 96, show _ < 16 by omega⟩, ⟨n % 48, lt_of_lt_of_eq (show _ < 48 by omega) chunks_all.symm⟩), by
    show 96 * (n / 96) + 48 * (n % 96 / 48) + n % 48 = n
    omega⟩

/-- The places of the flat input that a chunk reads, -/
abbrev xSet (e : Chunk) : Finset S50331648.Idx := (xCh (coords e.1 e.2.1) e.2.2).view.set
/-- and those of the flat output that it writes. -/
abbrev oSet (e : Chunk) : Finset S12582912.Idx := (oCh (coords e.1 e.2.1) e.2.2).view.set

/-- A chunk reads the 32768 places of the flat input at its own place among the chunks, -/
theorem mem_xSet (e : Chunk) (p : S50331648.Idx) : p ∈ xSet e ↔ (p 0).val / 32768 = e.pos := by
  have hs : xSet e = (Rect.unit (s := S50331648) (k0_off1 (coords e.1 e.2.1) e.2.2) S32768.size (k0_off1_inb _ _)).set := by
    unfold xSet; rw [View.set_slice]; exact Finset.map_refl
  rw [hs, Rect.mem_set_unit, Fin.forall_fin_one, k0_off1_eq]
  show (3145728 * e.2.1.val + 1572864 * e.1.val + 32768 * e.2.2.val ≤ (p 0).val
    ∧ (p 0).val < 3145728 * e.2.1.val + 1572864 * e.1.val + 32768 * e.2.2.val + 32768) ↔ _
  unfold Chunk.pos
  omega

/-- and writes the 8192 places of the flat output there. -/
theorem mem_oSet (e : Chunk) (p : S12582912.Idx) : p ∈ oSet e ↔ (p 0).val / 8192 = e.pos := by
  have hs : oSet e = (Rect.unit (s := S12582912) (k0_off5 (coords e.1 e.2.1) e.2.2) S8192.size (k0_off5_inb _ _)).set := by
    unfold oSet; rw [View.set_slice]; exact Finset.map_refl
  rw [hs, Rect.mem_set_unit, Fin.forall_fin_one, k0_off5_eq]
  show (786432 * e.2.1.val + 393216 * e.1.val + 8192 * e.2.2.val ≤ (p 0).val
    ∧ (p 0).val < 786432 * e.2.1.val + 393216 * e.1.val + 8192 * e.2.2.val + 8192) ↔ _
  unfold Chunk.pos
  omega

/-- No two chunks read the same place, -/
theorem xSet_apart (e : Chunk) (_ : e ∈ (Finset.univ : Finset Chunk)) (e' : Chunk) (_ : e' ∈ (Finset.univ : Finset Chunk)) (h : e ≠ e') :
    Disjoint (xSet e) (xSet e') :=
  Finset.disjoint_left.mpr fun p h1 h2 => h (Chunk.ext_pos (((mem_xSet e p).mp h1).symm.trans ((mem_xSet e' p).mp h2)))

/-- or write the same place. -/
theorem oSet_apart (e : Chunk) (_ : e ∈ (Finset.univ : Finset Chunk)) (e' : Chunk) (_ : e' ∈ (Finset.univ : Finset Chunk)) (h : e ≠ e') :
    Disjoint (oSet e) (oSet e') :=
  Finset.disjoint_left.mpr fun p h1 h2 => h (Chunk.ext_pos (((mem_oSet e p).mp h1).symm.trans ((mem_oSet e' p).mp h2)))

/-- Every place of the flat input is read, -/
theorem xSet_all : (Finset.univ : Finset Chunk).biUnion xSet = Finset.univ :=
  Finset.eq_univ_iff_forall.mpr fun p => by
    have hp : (p 0).val < 50331648 := (p 0).isLt
    have he := Chunk.exists_pos (n := (p 0).val / 32768) (by omega)
    simp only [Finset.mem_biUnion, Finset.mem_univ, true_and, mem_xSet]
    exact he.imp fun e h => h.symm

/-- and every place of the flat output is written. -/
theorem oSet_all : (Finset.univ : Finset Chunk).biUnion oSet = Finset.univ :=
  Finset.eq_univ_iff_forall.mpr fun p => by
    have hp : (p 0).val < 12582912 := (p 0).isLt
    have he := Chunk.exists_pos (n := (p 0).val / 8192) (by omega)
    simp only [Finset.mem_biUnion, Finset.mem_univ, true_and, mem_oSet]
    exact he.imp fun e h => h.symm

/-- Both flat arrays, whole, are what all the tasks hold together. -/
theorem tasks_all (d : Dev nD) (xf : Buf (Elt F) (xLoc d)) (g : Buf (Elt F) (oLoc d)) :
    (bigSep Finset.univ fun c : Fin (grid0.bound 0) => bigSep Finset.univ fun i : Fin (grid0.bound 1) => taskIn d (coords c i) xf g)
      = (iprop((xLoc d ↦{fullShare} xf) ∗ oLoc d ↦{fullShare} g) : sProp 𝕄) := by
  have hx : (xLoc d ↦{fullShare} xf : sProp 𝕄) = bigSep Finset.univ fun e : Chunk => xChPts d (coords e.1 e.2.1) e.2.2 xf := by
    refine Eq.trans ?_ (pointsTo_biUnion Finset.univ (ℓ := xLoc d) xSet xSet_apart)
    rw [xSet_all]
  have ho : (oLoc d ↦{fullShare} g : sProp 𝕄) = bigSep Finset.univ fun e : Chunk => oChPts d (coords e.1 e.2.1) e.2.2 g := by
    refine Eq.trans ?_ (pointsTo_biUnion Finset.univ (ℓ := oLoc d) oSet oSet_apart)
    rw [oSet_all]
  rw [hx, ho, ← bigSep_sep', ← Finset.univ_product_univ, SparseCore.bigSep_product]
  refine bigSep_congr fun c _ => ?_
  rw [← Finset.univ_product_univ, SparseCore.bigSep_product]

/-! ## The call's payloads -/

variable (m : (ℓ : Loc nD τ sig) → Buf (Elt F) ℓ) (ρ : Dev nD → PrngReg)

abbrev argRef : DevRef τ sig := Proc.devRef .tc (main_arg0 : Ref sig .tc)
abbrev idxRef : DevRef τ sig := Proc.devRef .tc (main_arg1 : Ref sig .tc)
abbrev xRef : DevRef τ sig := Proc.devRef .tc (main_v0 : Ref sig .tc)
abbrev oRef : DevRef τ sig := Proc.devRef .tc (main_v1 : Ref sig .tc)
abbrev resRef : DevRef τ sig := Proc.devRef .tc (main_v2 : Ref sig .tc)

/-- The first argument, flat. -/
def flatIn (d : Dev nD) : Buf (Elt F) (xLoc d) := shapeCast S50331648 (m (d, argRef)) shapeCasts_S8x49152x128_S50331648

/-- What the call leaves in the flat output: the pooling of the flat input. -/
def flatOut (d : Dev nD) : Buf (Elt F) (oLoc d) := pooled (F := F) hAll (flatIn m d)

/-- The program's result. -/
def result (d : Dev nD) : Buf (Elt F) ((SparseCore.T d : Thread nD τ).loc main_v2) :=
  shapeCast S8x12288x128 (flatOut m d) shapeCasts_S12582912_S8x12288x128

/-- What the task of vector subcore `i` on SparseCore `c` is given: its chunks, the output's at what the array held. -/
@[irreducible] def taskGo (d : Dev nD) (c : Fin (grid0.bound 0)) (i : Fin (grid0.bound 1)) : sProp 𝕄 :=
  taskIn d (coords c i) (flatIn m d) (m (oLoc d))
/-- What it gives back: its chunks, the output's pooled. -/
@[irreducible] def taskDone (d : Dev nD) (c : Fin (grid0.bound 0)) (i : Fin (grid0.bound 1)) : sProp 𝕄 :=
  taskIn d (coords c i) (flatIn m d) (flatOut m d)

instance taskGo_storable (d : Dev nD) (c : Fin (grid0.bound 0)) (i : Fin (grid0.bound 1)) :
    BI.Storable (upEmb : UEmb _ 𝕄) (taskGo m d c i) := by unfold taskGo; infer_instance
instance taskDone_storable (d : Dev nD) (c : Fin (grid0.bound 0)) (i : Fin (grid0.bound 1)) :
    BI.Storable (upEmb : UEmb _ 𝕄) (taskDone m d c i) := by unfold taskDone; infer_instance

/-- The call runs on as many cores as the grid has, -/
theorem nCore_eq (q : Fin 1) : (K (F := F)).nCore q = grid0.bound 0 := match q with | 0 => rfl
/-- and on as many subcores of each. -/
theorem nSub_eq (q : Fin 1) : (K (F := F)).nSub q = grid0.bound 1 := match q with | 0 => rfl

/-- The call's payloads: each task's, and for a SparseCore those of its tasks together. -/
def P : (K (F := F)).Pay (nD := nD) (Val := Elt F) (Name := ℕ) (U := UU) where
  st q d c := bigSep Finset.univ fun i : Fin ((K (F := F)).nSub q) => taskGo m d (Fin.cast (nCore_eq q) c) (Fin.cast (nSub_eq q) i)
  dn q d c := bigSep Finset.univ fun i : Fin ((K (F := F)).nSub q) => taskDone m d (Fin.cast (nCore_eq q) c) (Fin.cast (nSub_eq q) i)
  go q d c i := taskGo m d (Fin.cast (nCore_eq q) c) (Fin.cast (nSub_eq q) i)
  td q d c i := taskDone m d (Fin.cast (nCore_eq q) c) (Fin.cast (nSub_eq q) i)
  x _ _ := iprop(emp)

instance payStorable : (P m).IsStorable where
  st q d c := by unfold P; infer_instance
  dn q d c := by unfold P; infer_instance
  go q d c i := by unfold P; infer_instance
  td q d c i := by unfold P; infer_instance

/-! ## The launch theorem's obligations -/

/-- What a vector subcore runs: the task at its grid coordinates. -/
theorem defs₀_tile (c : Fin τ.nSC) (s : Fin τ.nSub) :
    defs₀ (F := F) (.scVector c s) 0 ()
      = SparseCore.onTile hcore0 hsub0 (fun c s => cc0_pool (coords c s) (Memref.whole main_v0_scv) (Memref.isWhole_whole _)
          (Memref.whole main_v1_scv) (Memref.isWhole_whole _) (Memref.whole cc0_scratch0) (Memref.isWhole_whole _)
          (Memref.whole cc0_scratch1) (Memref.isWhole_whole _) cc0_scoped0 cc0_scoped1) ⟨⟩ c s := rfl

omit [FloatOps F] in
/-- A task's waits outside any call are among those the call's obligation allows. -/
theorem owed_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (by
    iintro ⟨%W', %hW, H⟩
    iexists W'
    isplitr; · ipureintro; exact fun p hp => (hW p hp).imp_right Or.inl
    iexact H)))

set_option maxRecDepth 16384 in
/-- The task on each subcore meets the launch's obligation: it takes its chunks and gives them back pooled. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  show iprop(_ ∗ _ ∗ taskGo m d ⟨_, hci.1⟩ ⟨_, hci.2⟩ ∗ _) ⊢ wp _ _ _ _ fun _ => iprop(taskDone m d ⟨_, hci.1⟩ ⟨_, hci.2⟩ ∗ _)
  unfold taskGo taskDone
  exact (tile_body d (coords ⟨_, hci.1⟩ ⟨_, hci.2⟩) facts (flatIn m d) (m (oLoc d)) O W hO).trans (wp_mono frame _ _ fun _ => owed_weaken)

/-- What a core takes is what its subcores take, and what it gives back is what they give back. -/
theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

def u₀ : UU := (initOf (K (F := F)).hsCells (K (F := F)).hsToks, 1)

omit [FloatOps F] in
/-- Nothing, over any family, is nothing. -/
theorem noShares {I : Type} (s : Finset I) : (bigSep s fun _ => iprop(emp)) = (iprop(emp) : sProp 𝕄) := bigSep_emp_const s

/-- The handshake's ghost state at the start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (noShares _)
  rw [hx, noShares]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's program -/

abbrev flatten : HloOp τ sig (Elt F) := StableHlo.reshape main_arg0 main_v0 (rfl : (.f32 : EltTy) = .f32) shapeCasts_S8x49152x128_S50331648
abbrev reform : HloOp τ sig (Elt F) := StableHlo.reshape main_v1 main_v2 (rfl : (.f32 : EltTy) = .f32) shapeCasts_S12582912_S8x12288x128

/-- The program's five arrays. -/
abbrev refs : Finset (DevRef τ sig) := {argRef, idxRef, xRef, oRef, resRef}

omit [FloatOps F] in
/-- Holding the five arrays is holding each. -/
theorem held_refs (d : Dev nD) (W : Valuation τ sig (Elt F)) :
    (held (T d) refs W : sProp 𝕄) = iprop(((d, argRef) ↦{fullShare} W argRef) ∗ ((d, idxRef) ↦{fullShare} W idxRef)
      ∗ ((d, xRef) ↦{fullShare} W xRef) ∗ ((d, oRef) ↦{fullShare} W oRef) ∗ ((d, resRef) ↦{fullShare} W resRef)) := by
  unfold held
  rw [SparseCore.bigSep_insert' (by decide), SparseCore.bigSep_insert' (by decide), SparseCore.bigSep_insert' (by decide),
    SparseCore.bigSep_insert' (by decide), bigSep_singleton]

/-- What the arrays hold at the start, -/
def atStart (d : Dev nD) : Valuation τ sig (Elt F) := fun b => m (d, b)
/-- after the call, -/
def atReturn (d : Dev nD) : Valuation τ sig (Elt F) := Function.update ((flatten (F := F)).result (atStart m d)) oRef (flatOut m d)
/-- and at the end. -/
def atEnd (d : Dev nD) : Valuation τ sig (Elt F) := (reform (F := F)).result (atReturn m d)

omit [FloatOps F] in
/-- At the start the TensorCore holds the five arrays. -/
theorem unscoped_held (d : Dev nD) : (unscopedBufs d (fun b => m ((SparseCore.T d).loc b)) : sProp 𝕄) = held (T d) refs (atStart m d) := by
  rw [held_refs]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- Flattening fills the flat input, -/
theorem flat_x (d : Dev nD) : (flatten (F := F)).result (atStart m d) xRef = flatIn m d :=
  (StableHlo.reshape_result _ _ _ _ _ _ _).trans rfl
/-- and no other array; -/
theorem flat_other (d : Dev nD) {b : DevRef τ sig} (h : b ≠ xRef) : (flatten (F := F)).result (atStart m d) b = m (d, b) :=
  (HloOp.result_of_not_mem _ _ (fun hb => h (Finset.mem_singleton.mp hb))).trans rfl
/-- the call fills the flat output, -/
theorem return_o (d : Dev nD) : atReturn m d oRef = flatOut m d := Function.update_self _ _ _
/-- and no other array; -/
theorem return_other (d : Dev nD) {b : DevRef τ sig} (h : b ≠ oRef) : atReturn m d b = (flatten (F := F)).result (atStart m d) b :=
  Function.update_of_ne h _ _
/-- the last operation fills only the result, -/
theorem end_other (d : Dev nD) {b : DevRef τ sig} (h : b ≠ resRef) : atEnd m d b = atReturn m d b :=
  HloOp.result_of_not_mem _ _ (fun hb => h (Finset.mem_singleton.mp hb))
/-- with the pooling in the result's shape. -/
theorem end_res (d : Dev nD) : atEnd m d resRef = result m d := by
  refine (StableHlo.reshape_result _ _ _ _ _ _ _).trans ?_
  rw [return_o]
  rfl

/-- What the call is given: the arrays it works on. -/
theorem st_all (d : Dev nD) : (bigSep Finset.univ fun c : Fin ((K (F := F)).nCore 0) => (P m).st 0 d c)
    = iprop((xLoc d ↦{fullShare} flatIn m d) ∗ oLoc d ↦{fullShare} m (oLoc d)) := by
  rw [← tasks_all]
  show (bigSep Finset.univ fun c : Fin (grid0.bound 0) => bigSep Finset.univ fun i : Fin (grid0.bound 1) => taskGo m d c i) = _
  unfold taskGo
  rfl
/-- What it gives back. -/
theorem dn_all (d : Dev nD) : (bigSep Finset.univ fun c : Fin ((K (F := F)).nCore 0) => (P m).dn 0 d c)
    = iprop((xLoc d ↦{fullShare} flatIn m d) ∗ oLoc d ↦{fullShare} flatOut m d) := by
  rw [← tasks_all]
  show (bigSep Finset.univ fun c : Fin (grid0.bound 0) => bigSep Finset.univ fun i : Fin (grid0.bound 1) => taskDone m d c i) = _
  unfold taskDone
  rfl

/-- The operation before the call uses only the five arrays, -/
theorem flatten_within : (flatten (F := F)).bufs ⊆ refs := show ({argRef, xRef} : Finset (DevRef τ sig)) ⊆ refs by decide
/-- and so does the one after it. -/
theorem reform_within : (reform (F := F)).bufs ⊆ refs := show ({oRef, resRef} : Finset (DevRef τ sig)) ⊆ refs by decide

/-- What device `d` ends with: the arguments as they were and the result. -/
abbrev FIN (d : Dev nD) : sProp 𝕄 := iprop(((d, argRef) ↦{fullShare} m (d, argRef)) ∗ ((d, idxRef) ↦{fullShare} m (d, idxRef))
  ∗ ((d, resRef) ↦{fullShare} result m d))

/-- The arrays at the end give what the run's end says of a device. -/
theorem end_fin (d : Dev nD) : (held (T d) refs (atEnd m d) : sProp 𝕄) ⊢ FIN m d := by
  rw [held_refs, end_res, end_other m d (show argRef ≠ resRef by decide), end_other m d (show idxRef ≠ resRef by decide),
    return_other m d (show argRef ≠ oRef by decide), return_other m d (show idxRef ≠ oRef by decide),
    flat_other m d (show argRef ≠ xRef by decide), flat_other m d (show idxRef ≠ xRef by decide)]
  iintro ⟨Ha, Hi, -, -, Hr⟩
  isplitl [Ha]; · iexact Ha
  isplitl [Hi] <;> iassumption

/-- The arrays the call leaves alone, and the two it works on. -/
theorem held_call (d : Dev nD) : (held (T d) refs ((flatten (F := F)).result (atStart m d)) : sProp 𝕄)
    ⊢ iprop(((xLoc d ↦{fullShare} flatIn m d) ∗ oLoc d ↦{fullShare} m (oLoc d))
      ∗ (((xLoc d ↦{fullShare} flatIn m d) ∗ oLoc d ↦{fullShare} flatOut m d) -∗ held (T d) refs (atReturn m d))) := by
  rw [held_refs, held_refs, return_o, return_other m d (show argRef ≠ oRef by decide), return_other m d (show idxRef ≠ oRef by decide),
    return_other m d (show xRef ≠ oRef by decide), return_other m d (show resRef ≠ oRef by decide), flat_x,
    flat_other m d (show oRef ≠ xRef by decide)]
  iintro ⟨Ha, Hi, Hx, Ho, Hr⟩
  isplitl [Hx Ho]
  · isplitl [Hx] <;> iassumption
  iintro ⟨Hx, Ho⟩
  isplitl [Ha]; · iexact Ha
  isplitl [Hi]; · iexact Hi
  isplitl [Hx]; · iexact Hx
  isplitl [Ho] <;> iassumption

/-- The TensorCore's program on device `d`: flatten, the call, and the result given its shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flatten (F := F)) (S := refs) flatten_within (V := atStart m d)) $$ [Hb Hheld]
  · isplitl [Hb] <;> iassumption
  iintro ⟨Hb, Hheld⟩
  rw [wp_ret]; imodintro
  ihave H := (held_call m d) $$ Hheld
  icases H with ⟨Hxo, Hback⟩
  iapply ((K (F := F)).wp_run (D (F := F)) 𝒱 (EH := EH) (P := P m) κ d 0) $$ [Hst Hxo Hback Hb Hts]
  isplitr; · iexact Hctx
  isplitl [Hst]; · iexact Hst
  isplitl [Hxo]; · rw [st_all]; iexact Hxo
  iintro ⟨Hst, Hdn⟩
  ihave Hxo := (Entails.of_eq (dn_all m d)) $$ Hdn
  ihave Hheld := Hback $$ Hxo
  iapply (wp_hlo_within 𝒱 (SparseCore.T d) none Set.univ (op := reform (F := F)) (S := refs) reform_within (V := atReturn m d)) $$ [Hb Hheld]
  · isplitl [Hb] <;> iassumption
  iintro ⟨Hb, Hheld⟩
  rw [wp_ret]; imodintro; imodintro
  isplitl [Hst]; · iexact Hst
  isplitl [Hheld]; · iapply (end_fin m d); iexact Hheld
  isplitl [Hb] <;> iassumption

/-! ## The run -/

/-- What is read off the final memory. -/
def fq (d : Dev nD) (s' : Phys nD τ sig (Elt F)) : Prop :=
  s'.mem.mem (d, argRef) = m (d, argRef) ∧ s'.mem.mem (d, idxRef) = m (d, idxRef) ∧ s'.mem.mem (d, resRef) = result m d

omit [FloatOps F] in
/-- An array held whole is what memory has. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
/-- What a device ends with, read against memory. -/
theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (read_whole s' (d, argRef) (m (d, argRef))) $$ [HSI Ha]
  · isplitl [Ha] <;> iassumption
  icases H with ⟨%ha, HSI⟩
  ihave H := (read_whole s' (d, idxRef) (m (d, idxRef))) $$ [HSI Hi]
  · isplitl [Hi] <;> iassumption
  icases H with ⟨%hi, HSI⟩
  ihave H := (read_whole s' (d, resRef) (result m d)) $$ [HSI Hr]
  · isplitl [Hr] <;> iassumption
  icases H with ⟨%hr, -⟩
  ipureintro; exact ⟨ha, hi, hr⟩

/-- The program's postcondition: arguments unchanged, the result the pooling of the first, every semaphore at zero. -/
def QC : PUnit × MemSt nD τ sig (Elt F) → Prop := fun r => (∀ d : Dev nD, r.2.mem (d, argRef) = m (d, argRef)
  ∧ r.2.mem (d, idxRef) = m (d, idxRef) ∧ r.2.mem (d, resRef) = result m d) ∧ r.2.sem = fun _ => 0

/-- From any memory the program ends without a fault, and as `QC` says. -/
theorem run [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.Proof.PoolKernelIdeal

end
-- ==== Proof.PoolValue.lean ====
/-
The two results are the same. `shaped_pooled` reads the kernel's result, the pooled flat array in its final shape, at an
index: the average of four consecutive input rows. `reference_apply` reads the reference's there: when `connection_indices`
counts up from zero, as the precondition says, its gather fetches those same four rows, and dividing their sum by four is
multiplying it by a quarter, on all extended reals. `values_eq` puts the two together.
-/
module

public import proofs.«01_k».proof.Defs
public import proofs.«01_k».proof.Proof.PoolFn
public import proofs.«01_k».proof.Proof.Gen.ReferenceIdeal.Run
public import proofs.«01_k».proof.Proof.Gen.Pre_nested
public import Idealize.ShloMosaic.Lib.Pipeline.Value
public import Idealize.ShloMosaic.Lib.ReduceAll
public import Idealize.ShloMosaic.Lib.WordArith
public import Idealize.ShloMosaic.Lib.IdealHost
public import Idealize.ShloMosaic.Lib.Pointwise.Reduce

@[expose] public section

noncomputable section

namespace Cert.Proof.PoolValue

open Cert.ReferenceIdeal Cert.ReferenceIdeal.Gen
open Cert.Proof.PoolFn
open Idealize.ShloMosaic

/-- The `k`-th of the four input elements that make up result element `j`: row `4 i + k` for row `i`. -/
def member (j : S8x12288x128.Idx) (k : Fin 4) : S8x49152x128.Idx :=
  ix3 (j 0) ⟨4 * (j 1).val + k.val, by have : (j 1).val < 12288 := (j 1).isLt; have := k.isLt; omega⟩ (j 2)

/-! ## The kernel's result -/

/-- Pooling the flat input and giving the flat result its shape averages each result element's four members. -/
theorem shaped_pooled {F : FTy → Type} [FloatOps F] (h : 50331648 = 4 * 12582912 ∧ 12582912 % 128 = 0) (x : S8x49152x128.Idx → F .f32)
    (hx : S8x49152x128.ShapeCasts (Flat 50331648)) (ho : (Flat 12582912).ShapeCasts S8x12288x128) (j : S8x12288x128.Idx) :
    shapeCast S8x12288x128 (pooled h (shapeCast (Flat 50331648) x hx)) ho j
      = avg (x (member j 0)) (x (member j 1)) (x (member j 2)) (x (member j 3)) := by
  have h0 : (j 0).val < 8 := (j 0).isLt
  have h1 : (j 1).val < 12288 := (j 1).isLt
  have h2 : (j 2).val < 128 := (j 2).isLt
  have hp : ((j 0).val * 12288 + (j 1).val) * 128 + (j 2).val < 12582912 := by omega
  rw [shapeCast_apply _ ho j (ix1 ⟨_, hp⟩) (by
    rw [Shape.rowMajor_val_one, Shape.rowMajor_val_three]; rfl)]
  have key : ∀ k, shapeCast (Flat 50331648) x hx (src h (ix1 ⟨_, hp⟩) k) = x (member j k) := fun k =>
    shapeCast_apply x hx _ _ (by
      rw [Shape.rowMajor_val_one, Shape.rowMajor_val_three, src_val]
      show ((j 0).val * 49152 + (4 * (j 1).val + k.val)) * 128 + (j 2).val
        = 512 * ((((j 0).val * 12288 + (j 1).val) * 128 + (j 2).val) / 128) + 128 * k.val
          + (((j 0).val * 12288 + (j 1).val) * 128 + (j 2).val) % 128
      omega)
  simp only [pooled, key]

/-! ## The reference's indices -/

/-- The index array that the precondition asks for: row `i` holds `4 i, 4 i + 1, 4 i + 2, 4 i + 3`. -/
def Nested (idx : IVec S12288x4 32) : Prop := ∀ p : S12288x4.Idx, idx p = BitVec.ofNat 32 (4 * (p 0).val + (p 1).val)

/-- The precondition, computed as all ones, says so. -/
theorem nested_of_pre {F : FTy → Type} [FloatOps F] (x : FVec F S8x49152x128 .f32) (idx : IVec S12288x4 32)
    (h : Cert.Pre_nested.fn x idx = fun _ => 1#1) : Nested idx := fun p => by
  have h1 : (p 1).val < 4 := (p 1).isLt
  have h0 : (p 0).val < 12288 := (p 0).isLt
  have e := congrFun h ix0
  unfold Cert.Pre_nested.fn at e
  have : Subsingleton Cert.Pre_nested.S_.Idx := ⟨fun a b => funext fun i => i.elim0⟩
  have e' := IntOp.cmpi_eq.mp (Host.reduce_andi_all _ _ _ _ _ e p)
  rw [e', shapeCast_apply _ _ p (ix1 ⟨4 * (p 0).val + (p 1).val, by omega⟩) (by
    rw [Shape.rowMajor_val_one, Shape.rowMajor_val_two]
    show 4 * (p 0).val + (p 1).val = (p 0).val * 4 + (p 1).val
    omega)]
  rfl

/-- The start indices the reference gathers by: a negative index counts from the end. -/
abbrev starts (idx : IVec S12288x4 32) : IVec S12288x4x1 32 :=
  broadcastInDim S12288x4x1 ![0, 1] bcast_S12288x4_S12288x4x1_0_1
    (select (cmpi .slt idx (broadcastInDim S12288x4 ![] bcast_S_S12288x4 (constantI S_ 32 0#32)))
      (addi idx (broadcastInDim S12288x4 ![] bcast_S_S12288x4 (constantI S_ 32 49152#32))) idx)

/-- None is negative here. -/
theorem starts_apply {idx : IVec S12288x4 32} (h : Nested idx) (r : Fin 12288) (k : Fin 4) (z : Fin 1) :
    starts idx (ix3 r k z) = BitVec.ofNat 32 (4 * r.val + k.val) := by
  have hr := r.isLt
  have hk := k.isLt
  have hv : idx (ix2 r k) = BitVec.ofNat 32 (4 * r.val + k.val) := h _
  have hs : IntOp.cmpi .slt (idx (ix2 r k)) 0#32 = 0#1 := by
    rw [hv]
    simp only [IntOp.cmpi, BitVec.slt_eq_decide, Idealize.ShloMosaic.WordArith.toInt_ofNat_small _ (show 4 * r.val + k.val < 2 ^ 31 by omega)]
    rw [show (0#32).toInt = 0 from rfl, decide_eq_false (not_lt.mpr (Int.natCast_nonneg _))]
    rfl
  unfold starts
  rw [broadcastInDim_apply _ _ _ _ (ix2 r k) (fun a => match a with | ⟨0, _⟩ => rfl | ⟨1, _⟩ => rfl)]
  unfold select cmpi
  rw [ValueIdx.broadcastInDim_scalar_apply]
  show (if IntOp.cmpi .slt (idx (ix2 r k)) 0#32 = 1#1 then _ else _) = _
  rw [hs, if_neg (by decide), hv]

/-- How the reference's gather reads: whole features of the input row that the index names. -/
abbrev dims := gather_S8x49152x128_S12288x4x1_S8x12288x4x128_03_1_n_n_1_2_81128

/-- The gather fetches, for place `k` of row `r`, input row `4 r + k`. -/
theorem gathered_apply {α : Type} (x : S8x49152x128.Idx → α) {idx : IVec S12288x4 32} (h : Nested idx)
    (b : Fin 8) (r : Fin 12288) (k : Fin 4) (l : Fin 128) :
    Host.gather dims x (starts idx) (ix4 b r k l) = x (ix3 b ⟨4 * r.val + k.val, by omega⟩ l) := by
  unfold Host.gather
  refine congrArg x (funext fun a => Fin.ext ?_)
  show dims.start (ix4 b r k l) (starts idx) a + dims.batchCoord (ix4 b r k l) a + dims.offCoord (ix4 b r k l) a = _
  rw [GatherDims.batchCoord_eq_zero _ _ _ (show a ∉ ([] : List (Fin 3)) from List.not_mem_nil), Nat.add_zero]
  match a with
  | ⟨0, _⟩ =>
    rw [show dims.start (ix4 b r k l) (starts idx) ⟨0, by decide⟩ = 0 from dif_neg (show (0 : Fin 3) ∉ [(1 : Fin 3)] by decide), Nat.zero_add]
    rfl
  | ⟨1, _⟩ =>
    rw [GatherDims.offCoord_eq_zero _ _ _ (fun hm => ((GatherDims.mem_sKept _ _).mp hm).1 (List.mem_singleton.mpr rfl)), Nat.add_zero]
    show dims.start (ix4 b r k l) (starts idx) (1 : Fin 3) = 4 * r.val + k.val
    unfold GatherDims.start
    rw [dif_pos (show (1 : Fin 3) ∈ dims.startIndexMap from List.mem_singleton.mpr rfl)]
    have hsi : dims.siIdx (ix4 b r k l) ⟨List.idxOf (1 : Fin 3) dims.startIndexMap,
        List.idxOf_lt_length_iff.2 (List.mem_singleton.mpr rfl)⟩ = ix3 r k 0 :=
      funext fun c => Fin.ext (match c with | ⟨0, _⟩ => rfl | ⟨1, _⟩ => rfl | ⟨2, _⟩ => rfl)
    have hr := r.isLt
    have hk := k.isLt
    rw [hsi, starts_apply h, Idealize.ShloMosaic.WordArith.toInt_ofNat_small _ (show 4 * r.val + k.val < 2 ^ 31 by omega)]
    show min (Int.toNat ((4 * r.val + k.val : ℕ) : ℤ)) (49152 - 1) = 4 * r.val + k.val
    rw [Int.toNat_natCast]; omega
  | ⟨2, _⟩ =>
    rw [show dims.start (ix4 b r k l) (starts idx) ⟨2, by decide⟩ = 0 from dif_neg (show (2 : Fin 3) ∉ [(1 : Fin 3)] by decide), Nat.zero_add]
    rfl

/-! ## The mean -/

/-- The word the kernel multiplies by is a quarter, -/
theorem quarter_val : Ideal.ofBits .f32 0x3E800000#32 = (((1 : ℝ) / 4 : ℝ) : EReal) := by
  simp [Ideal.ofBits, Ideal.ieee, -EReal.coe_mul]; norm_num
/-- and the one the reference divides by is four. -/
theorem four_val : Ideal.ofBits .f32 0x40800000#32 = ((4 : ℝ) : EReal) := by
  simp [Ideal.ofBits, Ideal.ieee, -EReal.coe_mul]; norm_num

/-- The kernel's average of four extended reals is their sum divided by four. -/
theorem avg_ideal (v : Fin 4 → EReal) :
    (avg (F := Ideal) (v 0) (v 1) (v 2) (v 3) : EReal) = Ideal.div (0 + ∑ k, v k) (Ideal.ofBits .f32 0x40800000#32) := by
  show (v 0 + v 1 + v 2 + v 3) * Ideal.ofBits .f32 0x3E800000#32 = _
  rw [quarter_val, four_val, zero_add, Fin.sum_univ_four]
  unfold Ideal.div
  rw [if_neg (by norm_num), ← EReal.coe_inv]
  norm_num

/-- The reference's result. -/
abbrev reference (x : FVec Ideal S8x49152x128 .f32) (idx : IVec S12288x4 32) : FVec Ideal S8x12288x128 .f32 :=
  Host.divf (Host.reduceAdd (Host.gather dims x (starts idx)) (constant S_ .f32 0x00000000#32) reducesTo_S8x12288x4x128_S8x12288x128_d2 h_S_)
    (broadcastInDim S8x12288x128 ![] bcast_S_S8x12288x128 (constant S_ .f32 0x40800000#32))

/-- A result element of the reference is the sum of its four members divided by four. -/
theorem reference_apply (x : FVec Ideal S8x49152x128 .f32) {idx : IVec S12288x4 32} (h : Nested idx) (j : S8x12288x128.Idx) :
    reference x idx j = avg (F := Ideal) (x (member j 0)) (x (member j 1)) (x (member j 2)) (x (member j 3)) := by
  refine Eq.trans ?_ (avg_ideal fun k => x (member j k)).symm
  unfold reference
  rw [ValueIdx.hostDivf_apply, ValueIdx.broadcastInDim_scalar_apply, ValueIdx.hostReduceAdd_apply, Ideal.hostReduceAdd_r4_a2]
  show Ideal.div (Ideal.ofBits .f32 0x00000000#32 + _) (Ideal.ofBits .f32 0x40800000#32) = _
  rw [Ideal.ofBits_zero_f32]
  refine congrArg (fun s : EReal => Ideal.div (0 + s) (Ideal.ofBits .f32 0x40800000#32)) (Finset.sum_congr rfl fun k _ => ?_)
  exact gathered_apply x h _ _ _ _

/-- Where the precondition holds, the kernel's result is the reference's. -/
theorem values_eq (hn : 50331648 = 4 * 12582912 ∧ 12582912 % 128 = 0) (x : FVec Ideal S8x49152x128 .f32) {idx : IVec S12288x4 32} (h : Nested idx)
    (hx : S8x49152x128.ShapeCasts (Flat 50331648)) (ho : (Flat 12582912).ShapeCasts S8x12288x128) :
    reference x idx = shapeCast S8x12288x128 (pooled (F := Ideal) hn (shapeCast (Flat 50331648) x hx)) ho :=
  funext fun j => (reference_apply x h j).trans (shaped_pooled (F := Ideal) hn x hx ho j).symm

end Cert.Proof.PoolValue

end
-- ==== Proof.lean ====
/-
The proof of `Cert.Claim`. The frames are the kernel's run (`PoolKernel.run`, `PoolKernelIdeal.run`) and the reference's with the
values left out; the kernel was printed the same at the exact instance, so there is nothing to preserve; and the two results
agree by `PoolValue.values_eq`.
-/
module

public import proofs.«01_k».proof.Defs
public import proofs.«01_k».proof.Proof.PoolKernelRun
public import proofs.«01_k».proof.Proof.PoolKernelIdealRun
public import proofs.«01_k».proof.Proof.PoolValue
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nested
public import Idealize.ShloMosaic.Adequacy
public import Idealize.ShloMosaic.Init

@[expose] public section

noncomputable section

namespace Cert.Proof

open Idealize.ShloMosaic Idealize.SL.Sem

/-- The kernel at the machine's floats ends without a fault, its arguments unchanged and its semaphores at zero. -/
theorem kernel_frame : Cert.quiescent_Kernel := fun m ρ _ =>
  (θ_run Cert.Kernel.defs _ _).mono (fun _ h => ⟨fun c => ⟨(h.1 c).1, (h.1 c).2.1⟩, h.2⟩) (PoolKernel.run (F := Bits) m ρ)

/-- So does the kernel at the extended reals. -/
theorem ideal_frame (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0 :=
  (θ_run Cert.KernelIdeal.defs _ _).mono (fun _ h => ⟨fun c => ⟨(h.1 c).1, (h.1 c).2.1⟩, h.2⟩) (PoolKernelIdeal.run (F := Ideal) m ρ)

/-- The reference has no semaphore, so its run is its frame. -/
theorem reference_frame : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

/-- From memories that agree on the arguments, with `connection_indices` counting up from zero, the two programs end with the
    same result. -/
theorem value : Cert.algebraic_KernelIdeal_ReferenceIdeal_pre_nested := fun m ρ m' ρ' hpre hagree => by
  refine ⟨fun c => PoolKernelIdeal.result m c,
    (θ_run Cert.KernelIdeal.defs _ _).mono (fun _ h c => ⟨(h.1 c).2.2, (h.1 c).1, (h.1 c).2.1⟩) (PoolKernelIdeal.run (F := Ideal) m ρ),
    (θ_run Cert.ReferenceIdeal.defs _ _).mono (fun _ h c => ⟨(h c).1.trans ?_, (h c).2⟩) (Cert.ReferenceIdeal.Value.run (F := Ideal) m' ρ')⟩
  rw [(hagree c).1, (hagree c).2]
  exact PoolValue.values_eq PoolKernelIdeal.hAll _ (PoolValue.nested_of_pre _ _ (hpre c)) _ _

/-- The whole claim: every program ends as it should, and the kernel computes what the reference computes. -/
theorem claim : Cert.Claim :=
  ⟨Cert.Kernel.Gen.facts, Cert.KernelIdeal.Gen.facts, Cert.ReferenceIdeal.Gen.facts, Cert.Pre_nested.Gen.facts,
    kernel_frame, fun m ρ _ => ideal_frame m ρ, fun m ρ _ => ideal_frame m ρ, reference_frame, fun m ρ _ => reference_frame m ρ trivial,
    trivial, value⟩

end Cert.Proof

end
